-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_step [hPre_first_step : Cert.Pre_first_step.Facts] (m : (ℓ : Loc Cert.KernelIdeal.nD Cert.KernelIdeal.τ Cert.KernelIdeal.sig) → Buf (Elt Ideal) ℓ) : Prop :=
  ∀ c : Dev Cert.KernelIdeal.nD,
    (Cert.Pre_first_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_first_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_step [hPre_first_step : Cert.Pre_first_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_first_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_first_step [hKernelIdeal : Cert.KernelIdeal.Facts] [hPre_first_step : Cert.Pre_first_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_first_step [hReferenceIdeal : Cert.ReferenceIdeal.Facts] [hPre_first_step : Cert.Pre_first_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_first_step [hKernelIdeal : Cert.KernelIdeal.Facts] [hReferenceIdeal : Cert.ReferenceIdeal.Facts] [hPre_first_step : Cert.Pre_first_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_first_step : Cert.Pre_first_step.Facts),
    quiescent_Kernel (hKernel := hKernel)
    ∧ quiescent_KernelIdeal (hKernelIdeal := hKernelIdeal)
    ∧ quiescent_KernelIdeal_pre_first_step (hKernelIdeal := hKernelIdeal) (hPre_first_step := hPre_first_step)
    ∧ quiescent_ReferenceIdeal (hReferenceIdeal := hReferenceIdeal)
    ∧ quiescent_ReferenceIdeal_pre_first_step (hReferenceIdeal := hReferenceIdeal) (hPre_first_step := hPre_first_step)
    ∧ preserves_Kernel_KernelIdeal
    ∧ algebraic_KernelIdeal_ReferenceIdeal_pre_first_step (hKernelIdeal := hKernelIdeal) (hReferenceIdeal := hReferenceIdeal) (hPre_first_step := hPre_first_step)
-- ==== Pre_first_step.lean ====
abbrev S100000x128 : Shape := ⟨2, ![100000, 128]⟩
abbrev S100000 : Shape := ⟨1, ![100000]⟩
abbrev S1000000x128 : Shape := ⟨2, ![1000000, 128]⟩
abbrev S384x128 : Shape := ⟨2, ![384, 128]⟩
abbrev S384 : Shape := ⟨1, ![384]⟩
abbrev S_ : Shape := ⟨0, ![]⟩

class Facts : Prop where
  bcast_S_S1000000x128 : S_.BroadcastsInDim S1000000x128 (![] : Fin 0 → Fin S1000000x128.rank)

variable [Facts]

def fn {F : FTy → Type} [FloatOps F] (main_arg0 : FVec F S100000x128 .f32) (main_arg1 : IVec S100000 32) (main_arg2 : FVec F S1000000x128 .f32) (main_arg3 : FVec F S384x128 .f32) (main_arg4 : FVec F S384x128 .f32) (main_arg5 : FVec F S384 .f32) (main_arg6 : FVec F S384 .f32) : IVec S100000 1 × IVec S1000000x128 1 :=
  let main_v0 : IVec S100000 32 := iotaInDim S100000 32 0
  let main_v1 : IVec S100000 1 := cmpi .eq main_arg1 main_v0
  let main_cst : FVec F S_ .f32 := constant S_ .f32 0x00000000#32
  let main_v2 : FVec F S1000000x128 .f32 := broadcastInDim S1000000x128 ![] bcast_S_S1000000x128 main_cst
  let main_v3 : IVec S1000000x128 1 := cmpf .oeq main_arg2 main_v2
  (main_v1, main_v3)
-- ==== Kernel.lean ====
abbrev S100000x128 : Shape := ⟨2, ![100000, 128]⟩
abbrev S100000 : Shape := ⟨1, ![100000]⟩
abbrev S1000000x128 : Shape := ⟨2, ![1000000, 128]⟩
abbrev S384x128 : Shape := ⟨2, ![384, 128]⟩
abbrev S384 : Shape := ⟨1, ![384]⟩
abbrev S128x384 : Shape := ⟨2, ![128, 384]⟩
abbrev S1x384 : Shape := ⟨2, ![1, 384]⟩
abbrev S10000x128 : Shape := ⟨2, ![10000, 128]⟩
abbrev S10000x384 : Shape := ⟨2, ![10000, 384]⟩
abbrev S1x128 : Shape := ⟨2, ![1, 128]⟩

abbrev nBuf : Space → Nat
  | .hbm => 12
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1000000x128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S128x384, .f32⟩
  | .hbm, ⟨8, _⟩ => ⟨S1x384, .f32⟩
  | .hbm, ⟨9, _⟩ => ⟨S1x384, .f32⟩
  | .hbm, ⟨10, _⟩ => ⟨S1000000x128, .f32⟩
  | .hbm, ⟨11, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x384, .f32⟩
  | .local _ .vmem, ⟨3, _⟩ => ⟨S1x384, .f32⟩
  | .local _ .vmem, ⟨4, _⟩ => ⟨S1x384, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000x128 : Shape := ⟨2, ![100000, 128]⟩
abbrev S100000 : Shape := ⟨1, ![100000]⟩
abbrev S1000000x128 : Shape := ⟨2, ![1000000, 128]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S128x384 : Shape := ⟨2, ![128, 384]⟩
abbrev S100000x384 : Shape := ⟨2, ![100000, 384]⟩
abbrev S1x384 : Shape := ⟨2, ![1, 384]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1000000x128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S1, .i32⟩
  | .hbm, ⟨16, _⟩ => ⟨S_, .i32⟩
  | .hbm, ⟨17, _⟩ => ⟨S100000x1, .i32⟩
  | .hbm, ⟨18, _⟩ => ⟨S100000x1, .i1⟩
  | .hbm, ⟨19, _⟩ => ⟨S1x1, .i32⟩
  | .hbm, ⟨20, _⟩ => ⟨S100000x1, .i32⟩
  | .hbm, ⟨21, _⟩ => ⟨S100000x1, .i1⟩
  | .hbm, ⟨22, _⟩ => ⟨S100000x1, .i1⟩
  | .hbm, ⟨23, _⟩ => ⟨S_, .i1⟩
  | .hbm, ⟨24, _⟩ => ⟨S100000, .i1⟩
  | .hbm, ⟨25, _⟩ => ⟨S100000x128, .f32⟩
  | .hbm, ⟨26, _⟩ => ⟨S100000x128, .i1⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S128x384, .f32⟩
  | .hbm, ⟨31, _⟩ => ⟨S100000x384, .f32⟩
  | .hbm, ⟨32, _⟩ => ⟨S1x384, .f32⟩
  | .hbm, ⟨33, _⟩ => ⟨S100000x384, .f32⟩
  | .hbm, ⟨34, _⟩ => ⟨S100000x384, .f32⟩
  | .hbm, ⟨35, _⟩ => ⟨S128x384, .f32⟩
  | .hbm, ⟨36, _⟩ => ⟨S100000x384, .f32⟩
  | .hbm, ⟨37, _⟩ => ⟨S1x384, .f32⟩
  | .hbm, ⟨38, _⟩ => ⟨S100000x384, .f32⟩
  | .hbm, ⟨39, _⟩ => ⟨S100000x384, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S100000, .i32⟩
  | .hbm, ⟨75, _⟩ => ⟨S100000, .i1⟩
  | .hbm, ⟨76, _⟩ => ⟨S_, .i32⟩
  | .hbm, ⟨77, _⟩ => ⟨S100000, .i32⟩
  | .hbm, ⟨78, _⟩ => ⟨S100000, .i32⟩
  | .hbm, ⟨79, _⟩ => ⟨S100000, .i32⟩
  | .hbm, ⟨80, _⟩ => ⟨S100000x1, .i32⟩
  | .hbm, ⟨81, _⟩ => ⟨S1000000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21 : Ref sig .tc := ⟨.hbm, 51, rfl⟩
abbrev main_cst_0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_1 : Ref sig .tc := ⟨.hbm, 58, rfl⟩
abbrev main_v27 : Ref sig .tc := ⟨.hbm, 59, rfl⟩
abbrev main_v28 : Ref sig .tc := ⟨.hbm, 60, rfl⟩
abbrev main_cst_2 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_3 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c : Ref sig .tc := ⟨.hbm, 73, rfl⟩
abbrev main_v39 : Ref sig .tc := ⟨.hbm, 74, rfl⟩
abbrev main_v40 : Ref sig .tc := ⟨.hbm, 75, rfl⟩
abbrev main_c_4 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩

abbrev nD : Nat := 1
abbrev τ : Topo := Topo.v7x

variable {F : FTy → Type} [FloatOps F]
-- ==== Proof.Body.lean ====
/-
  The kernel's body, run once per branch at symbolic operands.

  At the first ten grid points the body computes the new hidden state of one block of 10000 nodes (`k0_pay1` of the
  four blocks it reads) and stores it twice: into the block of the memory bank and into the block of the new hidden
  state. At every later point it stores zeros (`k0_pay2`) into the bank's block and leaves the other output alone.
-/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the first ten: from the four blocks it reads and the two output buffers at anything, it
    returns the blocks as they were and the new hidden state in both output buffers. -/
theorem run_first (c : Dev nD) (i : grid0.Coords)
    (arg1 : Memref sig .tc .vmem S10000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S10000x128 .f32) (harg5 : arg5.IsWhole) (arg6 : Memref sig .tc .vmem S10000x128 .f32) (harg6 : arg6.IsWhole)
    (hc0 : k0_cond1 i = 1#1) (hc1 : ¬k0_cond2 i = 1#1)
    (x0 : Vec F S10000x128 .f32) (x1 : Vec F S128x384 .f32) (x2 : Vec F S1x384 .f32) (x3 : Vec F S1x384 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)
            ∗ owns (c : Thread nD τ) arg6 fullShare (k0_pay1 x0 x1 x2 x3)) -∗ K ⟨⟩))
      ⊢ wp frame (wpE (defs₀ (F := F)) Variants.none c none) E
          (cc0__fused_body i arg1 harg1 arg2 harg2 arg3 harg3 arg4 harg4 arg5 harg5 arg6 harg6) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  have loaded := congr (congr (congr (congrArg (k0_pay1 (F := F))
      ((View.readAt_full arg1.view _ inb_S10000x128_S10000x128_0_0).trans hf0))
      ((View.readAt_full arg2.view _ inb_S128x384_S128x384_0_0).trans hf1))
      ((View.readAt_full arg3.view _ inb_S1x384_S1x384_0_0).trans hf2))
      ((View.readAt_full arg4.view _ inb_S1x384_S1x384_0_0).trans hf3)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [View.read_writes_full]; exact loaded
  iexists _; isplitr; swap; · iexact H5
  ipureintro; rw [View.read_writes_full]; exact loaded

/-- The body at a later point: zeros into the bank's block; the other output's buffer is not touched. -/
theorem run_rest (c : Dev nD) (i : grid0.Coords)
    (arg1 : Memref sig .tc .vmem S10000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S10000x128 .f32) (harg5 : arg5.IsWhole) (arg6 : Memref sig .tc .vmem S10000x128 .f32) (harg6 : arg6.IsWhole)
    (hc0 : ¬k0_cond1 i = 1#1) (hc1 : k0_cond2 i = 1#1)
    (E : Set ℕ) (K : PUnit → sProp 𝕄) :
    iprop((∃ d, owns (c : Thread nD τ) arg5 fullShare d)
        ∗ (owns (c : Thread nD τ) arg5 fullShare (k0_pay2 (F := F)) -∗ K ⟨⟩))
      ⊢ wp frame (wpE (defs₀ (F := F)) Variants.none c none) E
          (cc0__fused_body i arg1 harg1 arg2 harg2 arg3 harg3 arg4 harg4 arg5 harg5 arg6 harg6) K := by
  simp only [cc0__fused_body_eq_skeleton]; unfold cc0__fused_body_skel
  unfold owns
  iintro ⟨⟨%d4, %f4, -, H4⟩, Hk⟩
  sl_exec (disch := first | sl_exact hc0 | sl_exact hc1)
  sl_step
  iapply Hk
  iexists _; isplitr; swap; · iexact H4
  ipureintro; exact View.read_writes_full _ _ _ _ _

end Cert.Bank

end
-- ==== Proof.Region.lean ====
/-
  The kernel's one region: what each window's staging buffer holds at each grid point, and the run from there.

  The new hidden state's window moves with the first ten points and then stands still on its last block. From point 10
  on the body leaves that window's buffer alone, so what it holds is what point 9 put there, and the last point writes
  it back. The bank's window moves at every point and is stored at every point.
-/
module

public import proofs.«01_k».proof.Proof.Body
public import Idealize.ShloMosaic.Lib.Claim

@[expose] public section

set_option maxRecDepth 16384

noncomputable section

namespace Cert.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the hundred points -/

/-- The first branch is taken at the first ten points, -/
theorem first_iff : ∀ t : Fin cfg0.N, k0_cond1 (grid0.coords t) = 1#1 ↔ t.val < 10 :=
  (by decide +kernel : ∀ t : Fin grid0.N, _)

/-- and the second at all the others. -/
theorem rest_iff : ∀ t : Fin cfg0.N, k0_cond2 (grid0.coords t) = 1#1 ↔ 10 ≤ t.val :=
  (by decide +kernel : ∀ t : Fin grid0.N, _)

/-- The new hidden state's window is idle from point 10 on. -/
theorem idle_new : ∀ t : Fin cfg0.N, cfg0.idle 5 (grid0.coords t) = decide (10 ≤ t.val) :=
  (by decide +kernel : ∀ t : Fin grid0.N, idle0 5 (grid0.coords t) = decide (10 ≤ t.val))

/-- The bank's window is never idle. -/
theorem live_bank : ∀ t : Fin cfg0.N, cfg0.idle 4 (grid0.coords t) = false :=
  (by decide +kernel : ∀ t : Fin grid0.N, idle0 4 (grid0.coords t) = false)

/-- The new hidden state's window is written back at the first nine points and at the last. -/
theorem flush_new : ∀ t : Fin cfg0.N, (cfg0.win 5).flush t = decide (t.val < 9 ∨ t.val = 99) :=
  fun t => (Pipeline.Window.flush_eq_flushF win0_5 t).trans
    ((by decide +kernel : ∀ t : Fin grid0.N, win0_5.flushF t = decide (t.val < 9 ∨ t.val = 99)) t)

/-- Its buffer holds nothing the body put there exactly up to point 9: a block left unwritten is carried from then on. -/
theorem fresh_new (n : ℕ) (hn : n ≤ cfg0.N) : cfg0.fresh 5 n = decide (n < 10 ∨ n = 100) := by
  refine cfg0.fresh_tab 5 (fun n => decide (n < 10 ∨ n = 100)) rfl (fun t => ?_) n hn
  rw [flush_new, idle_new, Bool.eq_iff_iff]
  simp only [Bool.or_eq_true, Bool.and_eq_true, decide_eq_true_eq]
  have := lt_of_lt_of_eq t.isLt (show cfg0.N = 100 from N_0)
  omega

/-! ## What the buffers hold -/

/-- The point at which the block that the new hidden state's window is on at point `t` was computed. -/
def source (t : Fin cfg0.N) : Fin cfg0.N := ⟨min t.val 9, lt_of_le_of_lt (Nat.min_le_left _ _) t.isLt⟩

/-- The new hidden state of the block of nodes read at point `t`. -/
def state (c : Dev nD) (t : Fin cfg0.N) : Vec F S10000x128 .f32 :=
  k0_pay1 (iblk m c 0 t) (iblk m c 1 t) (iblk m c 2 t) (iblk m c 3 t)

/-- The bank's block after point `t`: the new hidden state at the first ten points, zeros later. -/
def bank (c : Dev nD) (t : Fin cfg0.N) : Vec F S10000x128 .f32 :=
  if t.val < 10 then state m c t else k0_pay2

/-- The proof data of the region on core `c`: the arrays as the region finds them, and after each point the inputs'
    buffers at their blocks, the bank's at `bank`, the new hidden state's at the block computed last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => bank m c t
    | ⟨5, _⟩ => state m c (source t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_bank (c : Dev nD) (t : Fin cfg0.N) : (dats m 0 c).after 4 t = bank m c t := by dsimp only [dats]
theorem after_new (c : Dev nD) (t : Fin cfg0.N) : (dats m 0 c).after 5 t = state m c (source t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Past point 9 the block computed last does not change from one point to the next. -/
theorem source_pred (t : Fin cfg0.N) (h : 10 ≤ t.val) : source ⟨t.val - 1, by omega⟩ = source t :=
  Fin.ext (show min (t.val - 1) 9 = min t.val 9 by omega)

/-- From point 10 on the body finds in the new hidden state's buffer what it is to leave there. -/
theorem before_new (c : Dev nD) (t : Fin cfg0.N) (h : 10 ≤ t.val) (d) :
    (dats m 0 c).before 5 t d = state m c (source t) := by
  have hN := lt_of_lt_of_eq t.isLt (show cfg0.N = 100 from N_0)
  rw [(dats m 0 c).before_out_traj 5 rfl (fun _ _ => rfl) (fun t _ hi _ => ?_) t.val t rfl d, fresh_new _ t.isLt.le,
    if_neg (by simp only [decide_eq_true_eq]; omega), after_new, source_pred t h]
  rw [after_new, after_new, source_pred]
  have hi' := (idle_new t).symm.trans hi
  exact of_decide_eq_true hi'

/-! ## The body obligation -/

/-- The block the new hidden state's window leaves at one of the first ten points is that point's own. -/
theorem source_first (t : Fin cfg0.N) (h : t.val < 10) : source t = t :=
  Fin.ext (show min t.val 9 = t.val by omega)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input's buffer is left at its block, -/
theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after_3]
/-- the bank's at `bank`, -/
theorem leaves_bank (c : Dev nD) (t : Fin cfg0.N) :
    (dats m 0 c).leavesExact 4 t = owns (c : Thread nD τ) (st0_4 t) fullShare (bank m c t) := by
  unfold Dat.leavesExact; rw [show cfg0.idle 4 (cfg0.grid.coords t) = false from live_bank t, after_bank]
/-- and the new hidden state's, at a point that stores it, at that point's block. -/
theorem leaves_new_first (c : Dev nD) (t : Fin cfg0.N) (h : t.val < 10) :
    (dats m 0 c).leavesExact 5 t = owns (c : Thread nD τ) (st0_5 t) fullShare (state m c t) := by
  unfold Dat.leavesExact
  rw [show cfg0.idle 5 (cfg0.grid.coords t) = false from (idle_new t).trans (decide_eq_false (by omega)), after_new, source_first t h]

/-- At a later point, the buffer as found is as it is to be left, written back there or not. -/
theorem leaves_new_rest (c : Dev nD) (t : Fin cfg0.N) (h : 10 ≤ t.val) :
    (owns (c : Thread nD τ) (st0_5 t) fullShare (state m c (source t)) : sProp 𝕄) ⊢ (dats m 0 c).leavesExact 5 t := by
  have hi : cfg0.idle 5 (cfg0.grid.coords t) = true := (idle_new t).trans (decide_eq_true h)
  cases hf : (cfg0.win 5).flush t
  · rw [(dats m 0 c).leavesExact_idle 5 t hi hf]
    iintro H
    iexists (state m c (source t))
    rw [before_new m c t h]
    iexact H
  · unfold Dat.leavesExact
    rw [hi, hf, after_new]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_0, leaves_1, leaves_2, leaves_3, leaves_bank]
  by_cases h : t.val < 10
  · rw [leaves_new_first m c t h, show bank m c t = state m c t from if_pos h]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((first_iff t).mpr h)
      (fun h' => absurd ((rest_iff t).mp h') (by omega)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h' : 10 ≤ t.val := by omega
    simp only [before_new m c t h']
    rw [show bank m c t = k0_pay2 from if_neg h]
    iintro ⟨HΦ, Ho, ⟨%d0, H0⟩, ⟨%d1, H1⟩, ⟨%d2, H2⟩, ⟨%d3, H3⟩, ⟨%d4, H4⟩, ⟨%d5, H5⟩⟩
    iapply (run_rest c (grid0.coords t) _ _ _ _ _ _ _ _ _ _ _ _ (fun h₀ => h ((first_iff t).mp h₀))
      ((rest_iff t).mpr h') Set.univ _)
    isplitl [H4]; · iexists _; iexact H4
    iintro H4
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_new_rest m c t h')
    iexact H5

/-- The body table's row for the region is the body at the point's buffers. -/
theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
/-- Every run ends with the pipeline's arrays as the proof data says, and all counters at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The arguments end as they began and the counters at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiescent m ρ))

end Cert.Bank

end
-- ==== Proof.NewState.lean ====
/-
  The new hidden state as a formula over the argument arrays, and the kernel's block of it read at an index.
-/
module

public import proofs.«01_k».proof.Proof.Region
public import Idealize.ShloMosaic.Lib.Pipeline.ValueKit
public import Idealize.ShloMosaic.Lib.Pointwise

@[expose] public section

set_option maxRecDepth 16384

noncomputable section

namespace Cert.Bank

open Cert.KernelIdeal Cert.KernelIdeal.Gen
open Idealize.ShloMosaic Idealize.ShloMosaic.TcCoe Idealize.SL.Sem
open Idealize.ShloMosaic.Pipeline (Dat)

/-- Column `k` of the input gates of node `r`: its embedding against row `k` of the weights, plus the bias. -/
def inputGate (x : FVec Ideal S100000x128 .f32) (w : FVec Ideal S384x128 .f32) (b : FVec Ideal S384 .f32)
    (r : Fin 100000) (k : Fin 384) : EReal :=
  (∑ q : Fin 128, x (ix2 r q) * w (ix2 k q)) + b (ix1 k)

/-- One component of the cell's output from a zero previous state: the three input gates `iᵣ`, `i_z`, `iₙ` and the
    three hidden gates `hᵣ`, `h_z`, `hₙ`. -/
def cell (ir iz inn hr hz hn : EReal) : EReal :=
  (1 - Ideal.logistic (iz + hz)) * Ideal.tanh (inn + Ideal.logistic (ir + hr) * hn)

/-- The three columns of the gates that component `j` of a state depends on. -/
def colR (j : Fin 128) : Fin 384 := ⟨j.val, by omega⟩
def colZ (j : Fin 128) : Fin 384 := ⟨128 + j.val, by omega⟩
def colN (j : Fin 128) : Fin 384 := ⟨256 + j.val, by omega⟩

/-- Component `j` of node `r`'s new hidden state at the first step: the hidden gates are the hidden bias alone. -/
def newAt (x : FVec Ideal S100000x128 .f32) (w : FVec Ideal S384x128 .f32) (b h : FVec Ideal S384 .f32)
    (r : Fin 100000) (j : Fin 128) : EReal :=
  cell (inputGate x w b r (colR j)) (inputGate x w b r (colZ j)) (inputGate x w b r (colN j))
    (h (ix1 (colR j))) (h (ix1 (colZ j))) (h (ix1 (colN j)))

variable (m : (ℓ : Loc nD τ sig) → Buf (Elt Ideal) ℓ)

/-- The new hidden state over the argument arrays of core `c`. -/
abbrev newOf (c : Dev nD) : Fin 100000 → Fin 128 → EReal :=
  newAt (m ((c : Thread nD τ).loc main_arg0)) (m ((c : Thread nD τ).loc main_arg3))
    (m ((c : Thread nD τ).loc main_arg5)) (m ((c : Thread nD τ).loc main_arg6))

/-- The block indices of the six windows at every point. -/
theorem indices : ∀ t : Fin cfg0.N, win0_0.index t = ![min t.val 9, 0] ∧ win0_1.index t = ![0, 0]
    ∧ win0_2.index t = ![0, 0] ∧ win0_3.index t = ![0, 0] ∧ win0_4.index t = ![t.val, 0]
    ∧ win0_5.index t = ![min t.val 9, 0] :=
  (by decide +kernel : ∀ t : Fin grid0.N, _)

/-- Row `p` of the block of nodes computed at one of the first ten points, as a node. -/
def node (t : Fin cfg0.N) (ht : t.val < 10) (p : Fin 10000) : Fin 100000 := ⟨t.val * 10000 + p.val, by omega⟩

/-- The block of the new hidden state computed at one of the first ten points, read at an index. -/
theorem state_apply (c : Dev nD) (t : Fin cfg0.N) (ht : t.val < 10) (p : Fin 10000) (j : Fin 128) :
    state m c t (ix2 p j) = newOf m c (node t ht p) j := by
  unfold state
  pointwise [k0_pay1, newAt, cell, inputGate, colR, colZ, colN, node]
  blk_point [iblk, V, indices t]

end Cert.Bank

end
-- ==== Proof.Arrays.lean ====
/-
  The two result arrays after the run, as functions of the argument arrays.
-/
module

public import proofs.«01_k».proof.Proof.NewState

@[expose] public section

set_option maxRecDepth 16384

noncomputable section

namespace Cert.Bank

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The new hidden state as an array. -/
def newArray (c : Dev nD) : FVec Ideal S100000x128 .f32 := fun i => newOf m c (i 0) (i 1)

/-- The memory bank as an array: the new hidden state in the first 100000 rows, zeros in the others. -/
def bankArray (c : Dev nD) : FVec Ideal S1000000x128 .f32 := fun i =>
  if h : (i 0).val < 100000 then newOf m c ⟨(i 0).val, h⟩ (i 1) else 0

theorem newArray_apply (c : Dev nD) (i : S100000x128.Idx) (r : Fin 100000) (j : Fin 128)
    (h0 : (i 0).val = r.val) (h1 : (i 1).val = j.val) : newArray m c i = newOf m c r j := by
  obtain rfl : i 0 = r := Fin.ext h0
  obtain rfl : i 1 = j := Fin.ext h1
  rfl

theorem bankArray_first (c : Dev nD) (i : S1000000x128.Idx) (r : Fin 100000) (j : Fin 128)
    (h0 : (i 0).val = r.val) (h1 : (i 1).val = j.val) : bankArray m c i = newOf m c r j := by
  have hlt : (i 0).val < 100000 := by rw [h0]; exact r.isLt
  obtain rfl : (⟨(i 0).val, hlt⟩ : Fin 100000) = r := Fin.ext h0
  obtain rfl : i 1 = j := Fin.ext h1
  exact dif_pos hlt

theorem bankArray_rest (c : Dev nD) (i : S1000000x128.Idx) (h : 100000 ≤ (i 0).val) : bankArray m c i = 0 :=
  dif_neg (Nat.not_lt.mpr h)

/-- The new hidden state's array after the run. -/
theorem final_new (c : Dev nD) : (dats m 0 c).arrAt 5 (cfgs 0).N = newArray m c := by
  refine (dats m 0 c).arrAt_eq_of_covers 5 _ (by decide +kernel) fun t _ y => ?_
  blk_simp
  rw [after_new]
  obtain ⟨p, j, rfl⟩ : ∃ (p : Fin 10000) (j : Fin 128), y = ix2 p j := ⟨y 0, y 1, eq_ix2 y⟩
  refine (state_apply m c (source t) (by show min t.val 9 < 10; omega) p j).trans (newArray_apply m c _ _ _ ?_ ?_).symm
  · blk_simp [indices t, node, source]
  · blk_simp [indices t]

/-- The memory bank's array after the run. -/
theorem final_bank (c : Dev nD) : (dats m 0 c).arrAt 4 (cfgs 0).N = bankArray m c := by
  refine (dats m 0 c).arrAt_eq_of_covers 4 _ (by decide +kernel) fun t _ y => ?_
  blk_simp
  rw [after_bank]
  obtain ⟨p, j, rfl⟩ : ∃ (p : Fin 10000) (j : Fin 128), y = ix2 p j := ⟨y 0, y 1, eq_ix2 y⟩
  unfold bank
  by_cases ht : t.val < 10
  · rw [if_pos ht]
    refine (state_apply m c t ht p j).trans (bankArray_first m c _ _ _ ?_ ?_).symm
    · blk_simp [indices t, node]
    · blk_simp [indices t]
  · rw [if_neg ht]
    refine Eq.trans ?_ (bankArray_rest m c _ ?_).symm
    · pointwise [k0_pay2]
    · blk_simp [indices t]
      omega

end Cert.Bank

end
-- ==== Proof.Reference.lean ====
/-
  The reference program's two results over arguments that are those of a first step: node identifiers counting up from
  zero and a memory of zeros.
-/
module

public import proofs.«01_k».proof.Proof.NewState
public import proofs.«01_k».proof.Proof.Gen.ReferenceIdeal
public import proofs.«01_k».proof.Proof.Gen.ReferenceIdeal.Read
public import Idealize.ShloMosaic.Lib.Routing.OpsSet
public import Idealize.ShloMosaic.Lib.Routing.OpsPair
public import Idealize.ShloMosaic.Lib.WordCmp
public import Idealize.ShloMosaic.Lib.Pointwise

@[expose] public section

set_option maxRecDepth 16384

noncomputable section

namespace Cert.Bank.Ref

open Cert.ReferenceIdeal Cert.ReferenceIdeal.Gen Cert.ReferenceIdeal.Read
open Idealize.ShloMosaic Idealize.ShloMosaic.TcCoe Idealize.SL.Sem

/-- An "and" over any axes of ones from a one is a one. -/
theorem reduce_ones {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  unfold Host.reduce
  rw [hi]
  generalize (List.finRange s.numel).filter _ = l
  induction l with
  | nil => rfl
  | cons n l ih =>
    rw [List.foldl_cons, hx]
    exact ih

variable (x0 : FVec Ideal S100000x128 .f32) (x1 : IVec S100000 32) (x2 : FVec Ideal S1000000x128 .f32)
  (x3 x4 : FVec Ideal S384x128 .f32) (x5 x6 : FVec Ideal S384 .f32)

/-- The identifier of a node, a word below the sign bit, is kept by the wrap of negative identifiers. -/
theorem wrap_id (n : Nat) (hn : n < 100000) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

section Ids
variable (hid : ∀ i : S100000.Idx, x1 i = BitVec.ofNat 32 (i 0).val)
include hid

/-- The gather's row index. -/
theorem take_index (i : S100000x1.Idx) : val_main_call0_v5 (F := Ideal) x1 i = BitVec.ofNat 32 (i 0).val := by
  rw [val_main_call0_v5_apply, val_main_call0_v4_apply, val_main_call0_v1_apply, val_main_call0_v0_apply,
    val_main_call0_c_apply, hid]
  exact wrap_id _ (i 0).isLt _

/-- Every row index is inside the memory, so no row is filled in. -/
theorem take_inside (i : S100000x128.Idx) : val_main_call0_v14 (F := Ideal) x1 i = 1#1 := by
  rw [val_main_call0_v14_apply]
  unfold val_main_call0_v12
  refine reduce_ones _ _ _ _ _ (fun k => ?_) fun k => val_main_call0_c_3_apply k
  have hk : (k 0).val < 100000 := (k 0).isLt
  rw [val_main_call0_v11_apply, val_main_call0_v7_apply, val_main_call0_v10_apply, take_index x1 hid,
    val_main_call0_v6_apply, val_main_call0_c_2_apply, val_main_call0_v9_apply, val_main_call0_v8_apply,
    val_main_call0_c_1_apply, WordCmp.cmpi_sge_eq, WordCmp.cmpi_sle_eq,
    WordCmp.toInt_ofNat_of_lt (w := 32) (a := (k 0).val) (by omega),
    decide_eq_true (show (0#32).toInt ≤ ((k 0).val : Int) by rw [show (0#32).toInt = 0 by decide]; omega),
    decide_eq_true (show ((k 0).val : Int) ≤ (999999#32).toInt by
      rw [show (999999#32).toInt = 999999 by decide]; omega)]
  rfl

/-- The scatter's row index. -/
theorem put_index (i : S100000x1.Idx) : val_main_v44 (F := Ideal) x1 i = BitVec.ofNat 32 (i 0).val := by
  rw [val_main_v44_apply, val_main_v43_apply, val_main_v40_apply, val_main_v39_apply, val_main_c_apply, hid]
  exact wrap_id _ (i 0).isLt _

/-- Row `r` of the updates lands on row `r` of the memory. -/
theorem lands (k : S100000x128.Idx) (i : S1000000x128.Idx) :
    scatter_S1000000x128_S100000x1_S100000x128_1_0_0_1.resultIdx? k (val_main_v44 (F := Ideal) x1) = some i
      ↔ (k 0).val = (i 0).val ∧ (k 1).val = (i 1).val := by
  rw [Routing.resultIdx?_eq_some]
  have hk : (k 0).val < 100000 := (k 0).isLt
  have h0 : scatter_S1000000x128_S100000x1_S100000x128_1_0_0_1.start k (val_main_v44 (F := Ideal) x1) 0
      = ((k 0).val : Int) := by
    unfold ScatterDims.start
    rw [dif_pos (show (0 : Fin S1000000x128.rank) ∈
      scatter_S1000000x128_S100000x1_S100000x128_1_0_0_1.scatterDimsToOperandDims from List.mem_singleton.mpr rfl), put_index x1 hid]
    exact WordCmp.toInt_ofNat_of_lt (w := 32) (a := (k 0).val) (by omega)
  have h1 : scatter_S1000000x128_S100000x1_S100000x128_1_0_0_1.start k (val_main_v44 (F := Ideal) x1) 1 = 0 := rfl
  have w0 : scatter_S1000000x128_S100000x1_S100000x128_1_0_0_1.window k 0 = 0 := rfl
  have w1 : scatter_S1000000x128_S100000x1_S100000x128_1_0_0_1.window k 1 = (k 1).val := rfl
  constructor
  · intro h
    have e0 := h 0
    have e1 := h 1
    rw [h0, w0] at e0
    rw [h1, w1] at e1
    omega
  · intro ⟨e0, e1⟩ a
    have ha : a = 0 ∨ a = 1 := by
      match a with
      | ⟨0, _⟩ => exact Or.inl rfl
      | ⟨1, _⟩ => exact Or.inr rfl
    rcases ha with rfl | rfl
    · rw [h0, w0]; omega
    · rw [h1, w1]; omega

end Ids

section Zero
variable (hid : ∀ i : S100000.Idx, x1 i = BitVec.ofNat 32 (i 0).val) (hz : ∀ i : S1000000x128.Idx, x2 i = (0 : EReal))
include hid hz

/-- The previous state of every node is zero. -/
theorem previous (i : S100000x128.Idx) : val_main_v0 (F := Ideal) x1 x2 i = (0 : EReal) := by
  rw [val_main_v0_apply, take_inside x1 hid]
  exact hz _

/-- The hidden gates are the hidden bias. -/
theorem hidden (r : Fin 100000) (k : Fin 384) : val_main_v10 (F := Ideal) x1 x2 x4 x6 (ix2 r k) = x6 (ix1 k) := by
  rw [val_main_v10_apply, val_main_v7_apply, val_main_v9_apply, val_main_v8_apply]
  have hs : ∀ q : Fin 128, (val_main_v0 (F := Ideal) x1 x2 (lidx_main_v7 (ix2 r k) q) : EReal)
      * val_main_v6 (F := Ideal) x4 (ridx_main_v7 (ix2 r k) q) = 0 := fun q => by
    rw [previous x1 x2 hid hz, zero_mul]
  rw [Finset.sum_congr rfl fun q _ => hs q, Finset.sum_const_zero]
  refine (zero_add _).trans (congrArg x6 ?_)
  exact eq_ix1 _

end Zero

/-- The input gates. -/
theorem input (r : Fin 100000) (k : Fin 384) :
    val_main_v5 (F := Ideal) x0 x3 x5 (ix2 r k) = inputGate x0 x3 x5 r k := by
  rw [val_main_v5_apply, val_main_v2_apply, val_main_v4_apply, val_main_v3_apply]
  unfold inputGate
  refine congrArg₂ (fun a b : EReal => a + b) (Finset.sum_congr rfl fun q _ => ?_) (congrArg x5 (eq_ix1 _))
  rw [val_main_v1_apply]
  exact congrArg₂ (fun a b : EReal => a * b) (congrArg x0 (eq_ix2 _)) (congrArg x3 (eq_ix2 _))

/-- One component of the cell written out as the reference writes it, from a zero previous state. -/
theorem cell_eq (ir iz inn hr hz hn : EReal) :
    (1 - Ideal.div 1 (1 + Ideal.exp (-(iz + hz)))) * Ideal.tanh (inn + Ideal.div 1 (1 + Ideal.exp (-(ir + hr))) * hn)
        + Ideal.div 1 (1 + Ideal.exp (-(iz + hz))) * 0
      = cell ir iz inn hr hz hn := by
  rw [mul_zero, add_zero]
  rfl

section Out
variable (hid : ∀ i : S100000.Idx, x1 i = BitVec.ofNat 32 (i 0).val) (hz : ∀ i : S1000000x128.Idx, x2 i = (0 : EReal))
include hid hz

/-- The reference's new hidden state. -/
theorem new_apply (r : Fin 100000) (j : Fin 128) :
    val_main_v38 (F := Ideal) x0 x1 x2 x3 x4 x5 x6 (ix2 r j) = newAt x0 x3 x5 x6 r j := by
  have i11 : idx_main_v11 (ix2 r j) = ix2 r (colR j) := eq_ix2 _
  have i12 : idx_main_v12 (ix2 r j) = ix2 r (colZ j) := eq_ix2 _
  have i13 : idx_main_v13 (ix2 r j) = ix2 r (colN j) := eq_ix2 _
  have i14 : idx_main_v14 (ix2 r j) = ix2 r (colR j) := eq_ix2 _
  have i15 : idx_main_v15 (ix2 r j) = ix2 r (colZ j) := eq_ix2 _
  have i16 : idx_main_v16 (ix2 r j) = ix2 r (colN j) := eq_ix2 _
  rw [val_main_v38_apply, val_main_v37_apply, val_main_v36_apply, val_main_v35_apply, val_main_v34_apply,
    val_main_cst_3_apply, val_main_v33_apply, val_main_v32_apply, val_main_v31_apply, val_main_v30_apply,
    val_main_v29_apply, val_main_cst_2_apply, val_main_v28_apply, val_main_v27_apply, val_main_cst_1_apply,
    val_main_v26_apply, val_main_v25_apply, val_main_v24_apply, val_main_v23_apply, val_main_v22_apply,
    val_main_cst_0_apply, val_main_v21_apply, val_main_v20_apply, val_main_cst_apply, val_main_v19_apply,
    val_main_v18_apply, val_main_v17_apply, val_main_v16_apply, val_main_v15_apply, val_main_v14_apply,
    val_main_v13_apply, val_main_v12_apply, val_main_v11_apply, i11, i12, i13, i14, i15, i16,
    previous x1 x2 hid hz, hidden x1 x2 x4 x6 hid hz, hidden x1 x2 x4 x6 hid hz, hidden x1 x2 x4 x6 hid hz,
    input, input, input]
  have one : (FloatOps.ofBits (F := Ideal) .f32 0x3F800000#32 : EReal) = 1 := by pointwise
  rw [one]
  exact cell_eq _ _ _ _ _ _

/-- The reference's memory bank. -/
theorem bank_apply (i : S1000000x128.Idx) :
    val_main_v45 (F := Ideal) x0 x1 x2 x3 x4 x5 x6 i
      = if h : (i 0).val < 100000 then newAt x0 x3 x5 x6 ⟨(i 0).val, h⟩ (i 1) else (0 : EReal) := by
  unfold val_main_v45
  by_cases h : (i 0).val < 100000
  · rw [dif_pos h]
    refine Routing.scatter_set_hit _ _ _ _ _ _ (fun k hk => ?_) (ix2 ⟨(i 0).val, h⟩ (i 1))
      ((lands x1 hid _ _).mpr ⟨rfl, rfl⟩)
    obtain ⟨e0, e1⟩ := (lands x1 hid k i).mp hk
    have hk' : k = ix2 (⟨(i 0).val, h⟩ : Fin 100000) (i 1) :=
      (eq_ix2 k).trans (congrArg₂ ix2 (Fin.ext e0) (Fin.ext e1))
    rw [hk']
    exact new_apply x0 x1 x2 x3 x4 x5 x6 hid hz _ _
  · rw [dif_neg h]
    refine (Routing.scatter_set_miss _ _ _ _ _ fun k hk => ?_).trans (hz i)
    have e0 := ((lands x1 hid k i).mp hk).1
    have hlt : (k 0).val < 100000 := (k 0).isLt
    omega

end Out

end Cert.Bank.Ref

end
-- ==== Proof.Claims.lean ====
/-
  The claims about the reference and about the pair: the precondition read element by element, the reference's frame, and
  the equality of the kernel's two results with the reference's.
-/
module

public import proofs.«01_k».proof.Defs
public import proofs.«01_k».proof.Proof.Arrays
public import proofs.«01_k».proof.Proof.Reference
public import proofs.«01_k».proof.Proof.Gen.ReferenceIdeal.Run
public import proofs.«01_k».proof.Proof.Gen.Pre_first_step
public import Idealize.ShloMosaic.Lib.Quiescent
public import Idealize.ShloMosaic.Lib.Claim
public import Idealize.ShloMosaic.PureOps.Ideal.Laws

@[expose] public section

set_option maxRecDepth 16384

noncomputable section

namespace Cert.Bank

open Idealize.ShloMosaic Idealize.ShloMosaic.TcCoe Idealize.SL.Sem

section Pre
open Cert.KernelIdeal

variable (m : (ℓ : Loc nD τ sig) → Buf (Elt Ideal) ℓ) (hpre : Cert.Pre_KernelIdeal_first_step m)
include hpre

/-- The precondition's first half: node `i`'s identifier is `i`. -/
theorem ids_of_pre (c : Dev nD) (i : S100000.Idx) :
    m ((c.tc : Thread nD τ).loc main_arg1) i = BitVec.ofNat 32 (i 0).val := by
  have e : IntOp.cmpi .eq (m ((c.tc : Thread nD τ).loc main_arg1) i) (BitVec.ofNat 32 (i 0).val) = 1#1 :=
    congrFun (hpre c).1 i
  rw [WordCmp.cmpi_eq_eq, WordCmp.ofBool_decide_eq_one_iff] at e
  exact e

/-- The precondition's second half: the memory holds zeros. -/
theorem zero_of_pre (c : Dev nD) (i : S1000000x128.Idx) :
    m ((c.tc : Thread nD τ).loc main_arg2) i = (0 : EReal) := by
  have e : FloatOps.cmpf (F := Ideal) (φ := .f32) .oeq (m ((c.tc : Thread nD τ).loc main_arg2) i)
      (FloatOps.ofBits .f32 0x00000000#32) = 1#1 := congrFun (hpre c).2 i
  have zero : (FloatOps.ofBits (F := Ideal) .f32 0x00000000#32 : EReal) = 0 := by pointwise
  rw [zero, Ideal.cmpf_def] at e
  generalize m ((c.tc : Thread nD τ).loc main_arg2) i = v at e ⊢
  by_contra hv
  exact absurd (e.symm.trans (congrArg BitVec.ofBool (decide_eq_false hv))) (by decide)

end Pre

/-- The reference changes no argument, and it has no counters. -/
theorem frame_reference : Cert.quiescent_ReferenceIdeal := fun m ρ _ =>
  (θ_run Cert.ReferenceIdeal.defs _ _).mono (fun r h => ⟨fun c => (h c).2.2,
    sem_eq_zero_of_no_sems (by decide) r.2⟩) (Cert.ReferenceIdeal.Value.run (F := Ideal) m ρ)

/-- The kernel ends with the new hidden state and the memory bank in its two results, its arguments unchanged. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v3_1) = newArray m c
        ∧ r.2.mem ((c.tc : Thread Cert.KernelIdeal.nD Cert.KernelIdeal.τ).loc Cert.KernelIdeal.main_v3_0) = bankArray m c :=
  (θ_run Cert.KernelIdeal.defs _ _).mono
    (fun _ h c => ⟨((h c).1 5).trans (final_new m c), ((h c).1 4).trans (final_bank m c)⟩) (run m ρ)

/-- At a first step the kernel's two results are the reference's. -/
theorem same_results : Cert.algebraic_KernelIdeal_ReferenceIdeal_pre_first_step := by
  intro m ρ m' ρ' hpre hagree
  refine ⟨newArray m, bankArray m, ?_, ?_⟩
  · refine (θ_run Cert.KernelIdeal.defs _ _).mono (fun r h c => ?_) (θ_run_and (run_kernel m ρ) (frame_kernel m ρ))
    exact ⟨(h.1 c).1, (h.1 c).2, h.2.1 c⟩
  · refine (θ_run Cert.ReferenceIdeal.defs _ _).mono
      (fun _ h c => ⟨(h c).1.trans ?_, (h c).2.1.trans ?_, (h c).2.2⟩)
      (Cert.ReferenceIdeal.Value.run (F := Ideal) m' ρ')
    · obtain ⟨e0, e1, e2, e3, e4, e5, e6⟩ := hagree c
      rw [Cert.ReferenceIdeal.Read.val_main_v38_eq, e0, e1, e2, e3, e4, e5, e6]
      funext i
      obtain ⟨r, j, rfl⟩ : ∃ (r : Fin 100000) (j : Fin 128), i = ix2 r j := ⟨i 0, i 1, eq_ix2 i⟩
      exact Ref.new_apply _ _ _ _ _ _ _ (ids_of_pre m hpre c) (zero_of_pre m hpre c) r j
    · obtain ⟨e0, e1, e2, e3, e4, e5, e6⟩ := hagree c
      rw [Cert.ReferenceIdeal.Read.val_main_v45_eq, e0, e1, e2, e3, e4, e5, e6]
      funext i
      exact Ref.bank_apply _ _ _ _ _ _ _ (ids_of_pre m hpre c) (zero_of_pre m hpre c) i

end Cert.Bank

end
-- ==== Proof.Printed.lean ====
/-
  The frame of the kernel as printed, in machine arithmetic. The printed program and the idealized one are the same
  text, so the frame proved of the idealized program for any arithmetic is the printed one's too, once the two tables
  of bodies are seen to be equal.
-/
module

public import proofs.«01_k».proof.Defs
public import proofs.«01_k».proof.Proof.Region
public import proofs.«01_k».proof.Proof.Gen.Kernel

@[expose] public section

set_option maxRecDepth 16384

noncomputable section

namespace Cert.Bank

open Idealize.ShloMosaic Idealize.ShloMosaic.TcCoe Idealize.SL.Sem

variable {F : FTy → Type} [FloatOps F]

/-- The kernels' bodies are equal: there is one label, and its body is the same text. -/
theorem bodies_eq : Cert.Kernel.defs₀ (F := F) = Cert.KernelIdeal.defs₀ := by
  refine congrArg Defs.onTc (funext fun l => funext fun a => ?_)
  match l, a with
  | 0, (t, s) => rfl
  | ⟨_ + 1, h⟩, _ => exact absurd h (Nat.not_lt.2 (Nat.le_add_left _ _))

/-- So are the tables with the region and the pipeline added. -/
theorem tables_eq : Cert.Kernel.defs (F := F) = Cert.KernelIdeal.defs :=
  congrArg (Pipeline.defs Cert.KernelIdeal.pcfgs) bodies_eq

/-- The printed kernel's arguments end as they began and its counters at zero. -/
theorem frame_printed : Cert.quiescent_Kernel := by
  intro m ρ _
  rw [tables_eq]
  exact frame_kernel (F := Bits) m ρ

end Cert.Bank

end
-- ==== Proof.lean ====
module

public import proofs.«01_k».proof.Proof.Claims
public import proofs.«01_k».proof.Proof.Printed
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_first_step
public import Idealize.ShloMosaic.Adequacy
public import Idealize.ShloMosaic.Init

@[expose] public section

noncomputable section

namespace Cert.Proof

open Idealize.ShloMosaic Idealize.SL.Sem Cert.Kernel

/-- The kernel's frame as printed is Proof/Printed.lean; the other frames and the pair are Proof/Region.lean and
    Proof/Claims.lean. -/
theorem claim : Cert.Claim := ⟨Cert.Kernel.Gen.facts, Cert.KernelIdeal.Gen.facts, Cert.ReferenceIdeal.Gen.facts, Cert.Pre_first_step.Gen.facts,
  Cert.Bank.frame_printed,
  fun m ρ _ => Cert.Bank.frame_kernel m ρ,
  fun m ρ _ => Cert.Bank.frame_kernel m ρ,
  Cert.Bank.frame_reference,
  fun m ρ _ => Cert.Bank.frame_reference m ρ trivial,
  trivial,
  Cert.Bank.same_results⟩

end Cert.Proof

end
